-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x2048 : Shape := ⟨3, ![4, 2048, 2048]⟩
abbrev S2048x2048 : Shape := ⟨2, ![2048, 2048]⟩
abbrev S4x64 : Shape := ⟨2, ![4, 64]⟩
abbrev S4x256x2048 : Shape := ⟨3, ![4, 256, 2048]⟩
abbrev S4x2048 : Shape := ⟨2, ![4, 2048]⟩
abbrev S4 : Shape := ⟨1, ![4]⟩
abbrev S4x1 : Shape := ⟨2, ![4, 1]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S4x64, .i32⟩
  | .hbm, ⟨3, _⟩ => ⟨S4x64, .f32⟩
  | .local _ .vmem, ⟨0, _⟩ => ⟨S4x256x2048, .f32⟩
  | .local _ .vmem, ⟨1, _⟩ => ⟨S4x256x2048, .f32⟩
  | .local _ .vmem, ⟨2, _⟩ => ⟨S2048x2048, .f32⟩
  | .local _ .vmem, ⟨3, _⟩ => ⟨S4x64, .i32⟩
  | .local _ .vmem, ⟨4, _⟩ => ⟨S4x64, .f32⟩
  | .local _ .vmem, ⟨5, _⟩ => ⟨S4x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_7 : BitVec 32 := 0#32
  let v12 : BitVec 1 := Scalar.cmpi .ne v11 c0_i32_7
  v12

@[reducible] def k0_t1_loop : Scf.Loop 32 :=
  let c0_i32_16 : BitVec 32 := 0#32
  let c64_i32 : BitVec 32 := 64#32
  let v23 : BitVec 32 := Scalar.addi c0_i32_16 c64_i32
  let c1_i32 : BitVec 32 := 1#32
  ⟨c0_i32_16, v23, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4x2048x2048 : Shape := ⟨3, ![4, 2048, 2048]⟩
abbrev S2048x2048 : Shape := ⟨2, ![2048, 2048]⟩
abbrev S_ : Shape := ⟨0, ![]⟩
abbrev S4x2048 : Shape := ⟨2, ![4, 2048]⟩
abbrev S4x64 : Shape := ⟨2, ![4, 64]⟩
abbrev S4x64x1 : Shape := ⟨3, ![4, 64, 1]⟩
abbrev S1 : Shape := ⟨1, ![1]⟩
abbrev S1x1x1 : Shape := ⟨3, ![1, 1, 1]⟩
abbrev S4 : Shape := ⟨1, ![4]⟩
abbrev S4x1 : Shape := ⟨2, ![4, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S_, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x64, .f32⟩
  | .hbm, ⟨10, _⟩ => ⟨S4x64, .i32⟩
  | .hbm, ⟨11, _⟩ => ⟨S_, .i32⟩
  | .hbm, ⟨12, _⟩ => ⟨S4x64, .i32⟩
  | .hbm, ⟨13, _⟩ => ⟨S4x64, .i1⟩
  | .hbm, ⟨14, _⟩ => ⟨S_, .i32⟩
  | .hbm, ⟨15, _⟩ => ⟨S4x64, .i32⟩
  | .hbm, ⟨16, _⟩ => ⟨S4x64, .i32⟩
  | .hbm, ⟨17, _⟩ => ⟨S4x64, .i32⟩
  | .hbm, ⟨18, _⟩ => ⟨S4x64x1, .i32⟩
  | .hbm, ⟨19, _⟩ => ⟨S1, .i32⟩
  | .hbm, ⟨20, _⟩ => ⟨S_, .i32⟩
  | .hbm, ⟨21, _⟩ => ⟨S4x64x1, .i32⟩
  | .hbm, ⟨22, _⟩ => ⟨S4x64x1, .i1⟩
  | .hbm, ⟨23, _⟩ => ⟨S1x1x1, .i32⟩
  | .hbm, ⟨24, _⟩ => ⟨S4x64x1, .i32⟩
  | .hbm, ⟨25, _⟩ => ⟨S4x64x1, .i1⟩
  | .hbm, ⟨26, _⟩ => ⟨S4x64x1, .i1⟩
  | .hbm, ⟨27, _⟩ => ⟨S_, .i1⟩
  | .hbm, ⟨28, _⟩ => ⟨S4x64, .i1⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4, .f32⟩
  | .hbm, ⟨36, _⟩ => ⟨S4x1, .f32⟩
  | .hbm, ⟨37, _⟩ => ⟨S_, .f32⟩
  | .hbm, ⟨38, _⟩ => ⟨S4x1, .f32⟩
  | .hbm, ⟨39, _⟩ => ⟨S4x1, .f32⟩
  | .hbm, ⟨40, _⟩ => ⟨S4x64, .f32⟩
  | .hbm, ⟨41, _⟩ => ⟨S4x64, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_cst_2 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩

abbrev nD : Nat := 1
abbrev τ : Topo := Topo.v7x

variable {F : FTy → Type} [FloatOps F]
-- ==== Proof.Sort.lean ====
/-
  The order in which a stable descending sort lists the positions of a row: the greater key first, and of equal
  keys the lower position first.
-/
module

public import Idealize.ShloMosaic.Lib.SortFacts

@[expose] public section

namespace Cert.Ranks

open Idealize.ShloMosaic

variable {α : Type*} [LinearOrder α] {n : Nat}

/-- Position `x` comes before position `y`: its key is greater, or the keys are equal and `x` is lower. -/
def Leads (a : Fin n → α) (x y : Fin n) : Prop := a y < a x ∨ (a x = a y ∧ x < y)

/-- A position that leads `b` leads everything that `b` leads. -/
theorem Leads.trans {a : Fin n → α} {x y z : Fin n} (h : Leads a x y) (h' : Leads a y z) : Leads a x z := by
  rcases h with h | ⟨h, h1⟩ <;> rcases h' with h' | ⟨h', h1'⟩
  · exact Or.inl (h'.trans h)
  · exact Or.inl (h' ▸ h)
  · exact Or.inl (h ▸ h')
  · exact Or.inr ⟨h.trans h', h1.trans h1'⟩

variable (a : Fin n → α) (B : Fin n → Fin n → Bool) (hB : ∀ x y, B x y = true ↔ a y < a x)
include hB

/-- Inserting a position lower than all those listed keeps a list in the order. -/
theorem pairwise_insert (i : Fin n) (l : List (Fin n)) (hl : l.Pairwise (Leads a)) (hi : ∀ b ∈ l, i < b) :
    (insertBefore B i l).Pairwise (Leads a) := by
  induction l with
  | nil => exact List.pairwise_singleton _ _
  | cons b l ih =>
    have hb := List.pairwise_cons.mp hl
    unfold insertBefore
    split
    · rename_i h
      refine List.pairwise_cons.mpr ⟨fun c hc => ?_, ih hb.2 fun x hx => hi x (List.mem_cons_of_mem _ hx)⟩
      rcases List.mem_cons.mp ((perm_insertBefore B i l).mem_iff.mp hc) with rfl | hc'
      · exact Or.inl ((hB _ _).mp h)
      · exact hb.1 c hc'
    · rename_i h
      have hle : a b ≤ a i := not_lt.mp fun hlt => h ((hB _ _).mpr hlt)
      have hib : Leads a i b := by
        rcases lt_or_eq_of_le hle with h' | h'
        · exact Or.inl h'
        · exact Or.inr ⟨h'.symm, hi b List.mem_cons_self⟩
      refine List.pairwise_cons.mpr ⟨fun c hc => ?_, hl⟩
      rcases List.mem_cons.mp hc with rfl | hc'
      · exact hib
      · exact hib.trans (hb.1 c hc')

/-- The stable sort of an ascending list of positions is in the order. -/
theorem pairwise_sorted (l : List (Fin n)) (hl : l.Pairwise (· < ·)) : (stableSort B l).Pairwise (Leads a) := by
  induction l with
  | nil => exact List.Pairwise.nil
  | cons i l ih =>
    have h := List.pairwise_cons.mp hl
    unfold stableSort
    exact pairwise_insert a B hB i _ (ih h.2) fun b hb => h.1 b ((perm_stableSort B l).mem_iff.mp hb)

/-- Of two places of the sorted row, the earlier one's source leads the later one's. -/
theorem leads_sortedFrom (i j : Fin n) (hij : i < j) : Leads a (sortedFrom B i) (sortedFrom B j) := by
  have h : ∀ x y : Fin (sortPositions n B).length, x < y → Leads a ((sortPositions n B).get x) ((sortPositions n B).get y) :=
    List.pairwise_iff_get.mp (pairwise_sorted a B hB (List.finRange n) (List.pairwise_lt_finRange n))
  unfold sortedFrom
  exact h _ _ (by simp only [Fin.lt_def, Fin.val_cast]; exact hij)

end Cert.Ranks
-- ==== Proof.Rounds.lean ====
/-
  Picking the greatest entries of a row one after another. A round takes the greatest entry not yet picked, the lowest
  position among equals, and marks it with −1, which is below every entry of a row of absolute values. If `σ` lists
  the positions of the row in the order of Sort.lean, round `k` picks `σ k`.
-/
module

public import proofs.«01_k».proof.Proof.Sort
public import Idealize.ShloMosaic.Lib.Pointwise

@[expose] public section

namespace Cert.Ranks

open Idealize.ShloMosaic

variable {n : Nat}

/-- The row after `k` rounds: the entries at the first `k` listed positions are −1, the others are as they were. -/
noncomputable def marked (a : Fin n → EReal) (σ : Fin n → Fin n) (k : Nat) (c : Fin n) : EReal :=
  open Classical in if ∃ j : Fin n, j.val < k ∧ σ j = c then -1 else a c

/-- `σ` lists every position of the row once, in the order of the keys `a`. -/
structure Lists (a : Fin n → EReal) (σ : Fin n → Fin n) : Prop where
  inj : Function.Injective σ
  surj : Function.Surjective σ
  leads : ∀ i j, i < j → Leads a (σ i) (σ j)

/-- Before the first round nothing is marked. -/
theorem marked_zero (a : Fin n → EReal) (σ : Fin n → Fin n) (c : Fin n) : marked a σ 0 c = a c := by
  unfold marked; rw [if_neg]; rintro ⟨j, hj, -⟩; omega

/-- Round `k` marks `σ k` and nothing else. -/
theorem marked_succ (a : Fin n → EReal) (σ : Fin n → Fin n) (k : Fin n) (c : Fin n) :
    marked a σ (k.val + 1) c = if c = σ k then -1 else marked a σ k.val c := by
  unfold marked
  by_cases hc : c = σ k
  · rw [if_pos hc, if_pos ⟨k, Nat.lt_succ_self _, hc.symm⟩]
  · rw [if_neg hc]
    congr 1
    apply propext
    constructor
    · rintro ⟨j, hj, rfl⟩
      refine ⟨j, ?_, rfl⟩
      have : j ≠ k := fun h => hc (h ▸ rfl)
      have := Fin.val_ne_of_ne this
      omega
    · rintro ⟨j, hj, rfl⟩; exact ⟨j, by omega, rfl⟩

variable {a : Fin n → EReal} {σ : Fin n → Fin n}

/-- A position marked in the first `k` rounds is none of those listed from `k` on. -/
theorem Lists.marked_of_le (h : Lists a σ) (k : Nat) (j : Fin n) (hj : k ≤ j.val) : marked a σ k (σ j) = a (σ j) := by
  unfold marked; rw [if_neg]
  rintro ⟨i, hi, e⟩
  have := h.inj e; subst this; omega

/-- A position is marked −1, or it is listed from `k` on and holds its own entry. -/
theorem Lists.marked_cases (h : Lists a σ) (k : Nat) (c : Fin n) :
    marked a σ k c = -1 ∨ ∃ j : Fin n, k ≤ j.val ∧ c = σ j ∧ marked a σ k c = a c := by
  obtain ⟨j, rfl⟩ := h.surj c
  rcases Nat.lt_or_ge j.val k with hj | hj
  · left; unfold marked; rw [if_pos ⟨j, hj, rfl⟩]
  · exact Or.inr ⟨j, hj, rfl, h.marked_of_le k j hj⟩

/-- The greatest entry before round `k` is the one at `σ k`. -/
theorem Lists.marked_le (h : Lists a σ) (ha : ∀ c, 0 ≤ a c) (k : Fin n) (c : Fin n) : marked a σ k.val c ≤ a (σ k) := by
  rcases h.marked_cases k.val c with e | ⟨j, hj, rfl, e⟩
  · rw [e]; exact le_trans (by rw [EReal.neg_le_zero]; exact zero_le_one) (ha _)
  · rw [e]
    rcases Nat.lt_or_eq_of_le hj with hlt | heq
    · rcases h.leads k j hlt with hl | ⟨hl, -⟩
      · exact hl.le
      · exact hl.ge
    · rw [Fin.ext heq]

/-- The greatest entry of the row before round `k`, as a fold of maxima from −∞. -/
theorem Lists.fold_max_marked (h : Lists a σ) (ha : ∀ c, 0 ≤ a c) (k : Fin n) :
    Finset.fold max ⊥ (fun c => marked a σ k.val c) Finset.univ = a (σ k) := by
  apply le_antisymm
  · exact (Finset.fold_max_le _).mpr ⟨bot_le, fun c _ => h.marked_le ha k c⟩
  · exact (Finset.le_fold_max _).mpr (Or.inr ⟨σ k, Finset.mem_univ _, (h.marked_of_le _ _ le_rfl).ge⟩)

/-- Of the positions that hold the greatest entry before round `k`, `σ k` is the lowest. -/
theorem Lists.lowest (h : Lists a σ) (ha : ∀ c, 0 ≤ a c) (k : Fin n) (c : Fin n) (hc : marked a σ k.val c = a (σ k)) :
    σ k ≤ c := by
  rcases h.marked_cases k.val c with e | ⟨j, hj, rfl, e⟩
  · exfalso
    have h0 := ha (σ k)
    rw [← hc, e] at h0
    have : (-1 : EReal) < 0 := by rw [EReal.neg_lt_zero]; exact zero_lt_one
    exact absurd h0 (not_le.mpr this)
  · rcases Nat.lt_or_eq_of_le hj with hlt | heq
    · rcases h.leads k j hlt with hl | ⟨-, hl⟩
      · rw [e] at hc; exact absurd hl (by rw [hc]; exact lt_irrefl _)
      · exact hl.le
    · rw [Fin.ext heq]

/-- A sort whose relation is "the key is greater" lists the positions in the order of the keys. -/
theorem lists_sortedFrom (a : Fin n → EReal) (B : Fin n → Fin n → Bool) (hB : ∀ x y, B x y = true ↔ a y < a x) :
    Lists a (sortedFrom B) :=
  ⟨sortedFrom_injective B, sortedFrom_surjective B, leads_sortedFrom a B hB⟩

/-! ## The lowest position, as a fold of signed minima of words -/

/-- A fold of signed minima is its start or one of its entries, and is at most each of them. -/
theorem fold_minsi_spec {ι : Type} (f : ι → BitVec 32) (b : BitVec 32) (s : Finset ι) :
    (Finset.fold IntOp.minsi b f s = b ∨ ∃ c ∈ s, Finset.fold IntOp.minsi b f s = f c)
      ∧ ∀ c ∈ s, (Finset.fold IntOp.minsi b f s).toInt ≤ (f c).toInt := by
  classical
  induction s using Finset.induction_on with
  | empty => exact ⟨Or.inl rfl, fun c hc => absurd hc (Finset.notMem_empty c)⟩
  | insert x s hx ih =>
    rw [Finset.fold_insert hx]
    generalize Finset.fold IntOp.minsi b f s = r at ih
    unfold IntOp.minsi
    by_cases hlt : (f x).slt r = true
    · rw [if_pos hlt]
      rw [BitVec.slt_iff_toInt_lt] at hlt
      refine ⟨Or.inr ⟨x, Finset.mem_insert_self _ _, rfl⟩, fun c hc => ?_⟩
      rcases Finset.mem_insert.mp hc with rfl | hc
      · exact le_rfl
      · exact hlt.le.trans (ih.2 c hc)
    · rw [if_neg hlt]
      rw [BitVec.slt_iff_toInt_lt, not_lt] at hlt
      refine ⟨ih.1.imp_right fun ⟨c, hc, e⟩ => ⟨c, Finset.mem_insert_of_mem hc, e⟩, fun c hc => ?_⟩
      rcases Finset.mem_insert.mp hc with rfl | hc
      · exact hlt
      · exact ih.2 c hc

/-- A natural number below 2³¹ is its 32-bit word read signed. -/
theorem toInt_word (k : Nat) (hk : k < 2 ^ 31) : (BitVec.ofNat 32 k).toInt = k := by
  rw [BitVec.toInt_eq_toNat_of_lt] <;> simp only [BitVec.toNat_ofNat] <;> omega

/-- Of 2048 positions, with `s` the lowest for which `p` holds: the least of "the position where `p` holds, else 2048"
    is the word of `s`. -/
theorem fold_minsi_lowest (p : Fin 2048 → Prop) [DecidablePred p] (s : Fin 2048) (hs : p s) (hl : ∀ c, p c → s ≤ c) :
    Finset.fold IntOp.minsi (2147483647#32) (fun c : Fin 2048 => if p c then BitVec.ofNat 32 c.val else 2048#32)
      Finset.univ = BitVec.ofNat 32 s.val := by
  obtain ⟨h1, h2⟩ := fold_minsi_spec (fun c : Fin 2048 => if p c then BitVec.ofNat 32 c.val else 2048#32)
    (2147483647#32) Finset.univ
  have hle := h2 s (Finset.mem_univ _)
  have hs' := s.isLt
  simp only [if_pos hs] at hle
  rw [toInt_word s.val (by omega)] at hle
  apply BitVec.eq_of_toInt_eq
  rw [toInt_word s.val (by omega)]
  apply le_antisymm hle
  rcases h1 with e | ⟨c, -, e⟩
  · rw [e]; rw [show (2147483647#32).toInt = 2147483647 from by decide]; omega
  · rw [e]
    by_cases hc : p c
    · have := hl c hc
      have := c.isLt
      rw [if_pos hc, toInt_word c.val (by omega)]
      exact_mod_cast hl c hc
    · rw [if_neg hc, show (2048#32).toInt = 2048 from by decide]; omega

end Cert.Ranks
-- ==== Proof.Consts.lean ====
/-
  The float literals of the kernel and of the reference, as extended reals.
-/
module

public import Idealize.ShloMosaic.Lib.Pointwise

@[expose] public section

namespace Cert.Consts

open Idealize.ShloMosaic

/-- The word `0xFF800000` is −∞. -/
theorem negInf : Ideal.ofBits .f32 0xFF800000#32 = (⊥ : EReal) := by simp [Ideal.ofBits, Ideal.ieee]

/-- The word `0xBF800000` is −1. -/
theorem negOne : Ideal.ofBits .f32 0xBF800000#32 = (-1 : EReal) := by
  simp [Ideal.ofBits, Ideal.ieee, -EReal.coe_mul]; norm_num

/-- The word `0x3A000000` is 1/2048. -/
theorem inv2048 : Ideal.ofBits .f32 0x3A000000#32 = (((1 : ℝ) / 2048 : ℝ) : EReal) := by
  simp [Ideal.ofBits, Ideal.ieee, -EReal.coe_mul]; norm_num

/-- The word `0x45000000` is 2048. -/
theorem c2048 : Ideal.ofBits .f32 0x45000000#32 = ((2048 : ℝ) : EReal) := by
  simp [Ideal.ofBits, Ideal.ieee, -EReal.coe_mul]; norm_num

/-- Dividing by 2048 and multiplying by 1/2048 agree, at the infinities too. -/
theorem div_2048 (x : EReal) :
    Ideal.div x (Ideal.ofBits .f32 0x45000000#32) = x * Ideal.ofBits .f32 0x3A000000#32 := by
  rw [c2048, inv2048]; exact Ideal.div_coe (by norm_num) x

end Cert.Consts
-- ==== Proof.Trip.lean ====
/-
  The kernel's selection loop, row by row. Trip `k` finds the greatest entry of the marked row, the lowest position
  that holds it, writes the position and the signed value there into column `k`, and marks the position. Over rows of
  absolute values the 64 trips write the first 64 positions of the row in descending order, and the values there.
-/
module

public import proofs.«01_k».proof.Proof.Gen.KernelIdeal.Skeleton
public import proofs.«01_k».proof.Proof.Rounds
public import proofs.«01_k».proof.Proof.Consts
public import Idealize.ShloMosaic.Lib.Pointwise
public import Idealize.ShloMosaic.Lib.Exec

@[expose] public section

set_option maxRecDepth 16384

noncomputable section

namespace Cert.KernelIdeal.Value

open Idealize.ShloMosaic Cert.KernelIdeal Cert.KernelIdeal.Gen Cert.Ranks

/-- A fact of the carried values that holds at the start and passes each trip holds after the loop. -/
theorem fold_holds {n : Nat} {σ : Type} (P : Nat → σ → Prop) (g : Fin n → σ → σ) (x : σ) (h0 : P 0 x)
    (hs : ∀ (k : Fin n) (y : σ), P k.val y → P (k.val + 1) (g k y)) : P n (Scf.fold g x) := by
  rw [Scf.fold_eq]
  induction n with
  | zero => exact h0
  | succ n ih =>
    rw [List.finRange_succ_last, List.foldl_append, List.foldl_map]
    exact hs (Fin.last n) _ (ih (fun k y => g k.castSucc y) fun k y hy => hs k.castSucc y hy)

/-- The `k`-th of the first 64 positions of a row of 2048. -/
abbrev wide (k : Fin 64) : Fin 2048 := k.castLE (by decide)

variable (a : Fin 2048 → EReal) (σ : Fin 2048 → Fin 2048) (h : Lists a σ) (ha : ∀ c, 0 ≤ a c) (k : Fin 2048)
  (M : FVec Ideal S4x2048 .f32) (r : Fin 4) (hM : ∀ c : Fin 2048, M (ix2 r c) = marked a σ k.val c)
include h ha hM

/-- The position a trip finds in a row that has been marked `k` times is the `k`-th of the descending order. -/
theorem found (z : Fin 1) : k0_pay7 M (ix2 r z) = BitVec.ofNat 32 (σ k).val := by
  pointwise [k0_pay7]
  rw [Consts.negInf]
  simp only [hM]
  rw [h.fold_max_marked ha k]
  exact fold_minsi_lowest (fun c => marked a σ k.val c = a (σ k)) (σ k) (h.marked_of_le _ _ le_rfl) fun c hc => h.lowest ha k c hc

/-- The mask of a trip is set at the found position alone. -/
theorem found_mask (c : Fin 2048) : k0_pay8 M (ix2 r c) = if c = σ k then 1#1 else 0#1 := by
  pointwise [k0_pay8]
  rw [show k0_pay7 M (ix2 r 0) = _ from found a σ h ha k M r hM 0]
  have hc := c.isLt
  have hk := (σ k).isLt
  by_cases e : c = σ k
  · rw [if_pos e, e]; simp [IntOp.cmpi]
  · rw [if_neg e]
    have : (BitVec.ofNat 32 c.val) ≠ BitVec.ofNat 32 (σ k).val := fun hh => e (Fin.ext (by
      have := congrArg BitVec.toNat hh
      simp only [BitVec.toNat_ofNat] at this
      omega))
    show BitVec.ofBool (BitVec.ofNat 32 c.val == BitVec.ofNat 32 (σ k).val) = 0#1
    rw [beq_false_of_ne this]; rfl

/-- A trip leaves the row marked once more. -/
theorem marked_row (c : Fin 2048) : k0_pay9 M (ix2 r c) = marked a σ (k.val + 1) c := by
  pointwise [k0_pay9]
  rw [show k0_pay8 M (ix2 r c) = _ from found_mask a σ h ha k M r hM c, Consts.negOne, hM, marked_succ]
  by_cases e : c = σ k
  · rw [if_pos e, if_pos e]; rfl
  · rw [if_neg e, if_neg e]; rfl

omit h ha hM in
/-- Column `j` is the column trip `k` writes iff the loop's counter is its index. -/
theorem column_mask (t : Fin k0_t1_loop.trips) (j : Fin 64) :
    IntOp.cmpi .eq (BitVec.ofNat 32 j.val) (Scf.iv 0#32 1#32 t.val) = if j.val = t.val then 1#1 else 0#1 := by
  have ht : t.val < 64 := lt_of_lt_of_eq t.isLt (by decide)
  have hj := j.isLt
  have hiv : Scf.iv 0#32 1#32 t.val = BitVec.ofNat 32 t.val := by
    apply BitVec.eq_of_toNat_eq; simp [Scf.iv]
  rw [hiv]
  show BitVec.ofBool (BitVec.ofNat 32 j.val == BitVec.ofNat 32 t.val) = _
  by_cases e : j.val = t.val
  · rw [if_pos e, e, beq_self_eq_true]; rfl
  · have : (BitVec.ofNat 32 j.val) ≠ BitVec.ofNat 32 t.val := fun hh => e (by
      have := congrArg BitVec.toNat hh
      simp only [BitVec.toNat_ofNat] at this
      omega)
    rw [if_neg e, beq_false_of_ne this]; rfl

/-- A trip writes the found position into its own column of the positions. -/
theorem column_position (t : Fin k0_t1_loop.trips) (I : IVec S4x64 32) (j : Fin 64) :
    k0_pay10 t M I (ix2 r j) = if j.val = t.val then BitVec.ofNat 32 (σ k).val else I (ix2 r j) := by
  pointwise [k0_pay10]
  rw [column_mask, show k0_pay7 M (ix2 r 0) = _ from found a σ h ha k M r hM 0]
  by_cases e : j.val = t.val
  · rw [if_pos e, if_pos e]; rfl
  · rw [if_neg e, if_neg e]; rfl

/-- A trip writes the signed value at the found position into its own column of the values. -/
theorem column_value (A : Vec Ideal S4x2048 .f32) (W : Vec Ideal S2048x2048 .f32) (t : Fin k0_t1_loop.trips)
    (V : FVec Ideal S4x64 .f32) (j : Fin 64) :
    k0_pay11 A W t M V (ix2 r j) = if j.val = t.val then k0_pay3 A W (ix2 r (σ k)) else V (ix2 r j) := by
  pointwise [k0_pay11]
  rw [column_mask]
  by_cases e : j.val = t.val
  · rw [if_pos e, if_pos e]
    show (∑ x : Fin 2048, Scalar.select (k0_pay8 M (ix2 r x)) (k0_pay3 A W (ix2 r x) : EReal) 0) = _
    refine Eq.trans (Finset.sum_congr rfl fun x _ => ?_) (Finset.sum_ite_eq' Finset.univ (σ k) fun x => k0_pay3 A W (ix2 r x)) |>.trans (if_pos (Finset.mem_univ _))
    rw [show k0_pay8 M (ix2 r x) = _ from found_mask a σ h ha k M r hM x]
    by_cases e' : x = σ k
    · rw [if_pos e', if_pos e']; rfl
    · rw [if_neg e', if_neg e']; rfl
  · rw [if_neg e, if_neg e]; rfl

omit h ha hM k M r in
/-- The selection loop over the row of projections of an accumulator `A` by a weight `W`: the trips' fold. -/
def picks (A : Vec Ideal S4x2048 .f32) (W : Vec Ideal S2048x2048 .f32) :
    FVec Ideal S4x2048 .f32 × IVec S4x64 32 × FVec Ideal S4x64 .f32 :=
  Scf.fold (fun (t : Fin k0_t1_loop.trips) (y : FVec Ideal S4x2048 .f32 × IVec S4x64 32 × FVec Ideal S4x64 .f32) =>
    (k0_pay9 y.1, k0_pay10 t y.1 y.2.1, k0_pay11 A W t y.1 y.2.2)) (k0_pay4 A W, k0_pay5, k0_pay6)

omit h ha hM k M in
/-- After the loop, column `j` of a row holds the `j`-th position of the row's descending order of absolute values, and the
    signed value there. -/
theorem picks_row (A : Vec Ideal S4x2048 .f32) (W : Vec Ideal S2048x2048 .f32) (r : Fin 4) (σ : Fin 2048 → Fin 2048)
    (h : Lists (fun c : Fin 2048 => max (k0_pay3 A W (ix2 r c) : EReal) (-(k0_pay3 A W (ix2 r c) : EReal))) σ) (j : Fin 64) :
    (picks A W).2.1 (ix2 r j) = BitVec.ofNat 32 (σ (wide j)).val
      ∧ (picks A W).2.2 (ix2 r j) = k0_pay3 A W (ix2 r (σ (wide j))) := by
  set a : Fin 2048 → EReal := fun c : Fin 2048 => max (k0_pay3 A W (ix2 r c) : EReal) (-(k0_pay3 A W (ix2 r c) : EReal)) with ha'
  have ha : ∀ c, 0 ≤ a c := fun c => by
    rw [ha']
    rcases le_total 0 (k0_pay3 A W (ix2 r c) : EReal) with h0 | h0
    · exact le_max_of_le_left h0
    · exact le_max_of_le_right (EReal.neg_nonneg.mpr h0)
  have hN : k0_t1_loop.trips = 64 := by decide
  have key := fold_holds (fun n (y : FVec Ideal S4x2048 .f32 × IVec S4x64 32 × FVec Ideal S4x64 .f32) =>
      (∀ c : Fin 2048, y.1 (ix2 r c) = marked a σ n c)
      ∧ ∀ i : Fin 64, i.val < n → y.2.1 (ix2 r i) = BitVec.ofNat 32 (σ (wide i)).val
          ∧ y.2.2 (ix2 r i) = k0_pay3 A W (ix2 r (σ (wide i))))
    (fun (t : Fin k0_t1_loop.trips) (y : FVec Ideal S4x2048 .f32 × IVec S4x64 32 × FVec Ideal S4x64 .f32) =>
      (k0_pay9 y.1, k0_pay10 t y.1 y.2.1, k0_pay11 A W t y.1 y.2.2)) (k0_pay4 A W, k0_pay5, k0_pay6)
    ⟨fun c => by
        rw [marked_zero]
        show k0_pay4 A W (ix2 r c) = _
        pointwise [k0_pay4]
        rfl,
      fun i hi => absurd hi (Nat.not_lt_zero _)⟩
    (fun t y hy => by
      have ht : t.val < 64 := lt_of_lt_of_eq t.isLt hN
      obtain ⟨hm, hc⟩ := hy
      refine ⟨fun c => marked_row a σ h ha ⟨t.val, by omega⟩ y.1 r hm c, fun i hi => ⟨?_, ?_⟩⟩
      · refine (column_position a σ h ha ⟨t.val, by omega⟩ y.1 r hm t y.2.1 i).trans ?_
        by_cases e : i.val = t.val
        · rw [if_pos e, show wide i = ⟨t.val, by omega⟩ from Fin.ext e]
        · rw [if_neg e]; exact (hc i (by omega)).1
      · refine (column_value a σ h ha ⟨t.val, by omega⟩ y.1 r hm A W t y.2.2 i).trans ?_
        by_cases e : i.val = t.val
        · rw [if_pos e, show wide i = ⟨t.val, by omega⟩ from Fin.ext e]
        · rw [if_neg e]; exact (hc i (by omega)).2)
  exact key.2 j (by rw [hN]; exact j.isLt)

end Cert.KernelIdeal.Value
-- ==== Proof.Cases.lean ====
/-
  What the kernel's body leaves at a grid point: the accumulator after it, and at the last point the two results, as the
  printed operations over the input blocks and the accumulator before it.
-/
module

public import proofs.«01_k».proof.Proof.Gen.KernelIdeal.Value
public import proofs.«01_k».proof.Proof.Trip
public import Idealize.ShloMosaic.Lib.Tactic

@[expose] public section

set_option maxRecDepth 16384

noncomputable section

namespace Cert.KernelIdeal.Value

open Idealize.ShloMosaic Idealize.ShloMosaic.TcCoe Idealize.SL.Sem Cert.KernelIdeal Cert.KernelIdeal.Gen

variable (c : Dev nD) (i : grid0.Coords) (a1 : Memref sig .tc .vmem S4x256x2048 .f32) (h1 : a1.IsWhole)
  (a2 : Memref sig .tc .vmem S2048x2048 .f32) (h2 : a2.IsWhole) (a3 : Memref sig .tc .vmem S4x64 .i32) (h3 : a3.IsWhole)
  (a4 : Memref sig .tc .vmem S4x64 .f32) (h4 : a4.IsWhole) (a5 : Memref sig .tc .vmem S4x2048 .f32) (h5 : a5.IsWhole)
  (X : Vec Ideal S4x256x2048 .f32) (W : Vec Ideal S2048x2048 .f32) (A : Vec Ideal S4x2048 .f32)

/-- Zero offsets of a two-axis buffer. -/
theorem off2 : (![0, 0] : Fin 2 → Nat) = fun _ => 0 := funext fun a => by fin_cases a <;> rfl

/-- Zero offsets of a three-axis buffer. -/
theorem off3 : (![0, 0, 0] : Fin 3 → Nat) = fun _ => 0 := funext fun a => by fin_cases a <;> rfl

/-- The first point leaves the block's sums added to zero. -/
theorem acc_first (hc0 : cond0_0 i) (hc1 : ¬cond0_1 i) :
    sout0_A_0 c i a1 h1 a2 h2 a3 h3 a4 h4 a5 h5 hc0 hc1 X W = k0_pay2 k0_pay1 X := by
  unfold sout0_A_0
  rw [View.read_writes_eq_canon _ _ _ (scover0_A_0 c i a1 h1 a2 h2 a3 h3 a4 h4 a5 h5 hc0 hc1 X W)]
  unfold kernelRun0_A
  dsimp only
  sl_unfold_words
  rw [View.canon_cons_unit_zero (S := S4x2048) off2, View.readCov_unit_zero (S := S4x2048) _ off2]
  simp only [View.readAt_eq_ld, h1.read_unread, View.ld_unit_zero (S := S4x256x2048) off3]

/-- A middle point adds the block's sums to the accumulator. -/
theorem acc_middle (hc0 : ¬cond0_0 i) (hc1 : ¬cond0_1 i) :
    sout0_B_0 c i a1 h1 a2 h2 a3 h3 a4 h4 a5 h5 hc0 hc1 X W A = k0_pay2 A X := by
  unfold sout0_B_0
  rw [View.read_writes_eq_canon _ _ _ (scover0_B_0 c i a1 h1 a2 h2 a3 h3 a4 h4 a5 h5 hc0 hc1 X W A)]
  unfold kernelRun0_B
  dsimp only
  sl_unfold_words
  rw [View.canon_unit_zero (S := S4x2048) off2]
  simp only [View.readAt_eq_ld, h1.read_unread, h5.read_unread, View.ld_unit_zero (S := S4x256x2048) off3,
    View.ld_unit_zero (S := S4x2048) off2]

/-- The last point's positions: the loop's over the accumulator with the last block's sums added. -/
theorem positions_last (hc0 : ¬cond0_0 i) (hc1 : cond0_1 i) :
    out0_C_2 c i a1 h1 a2 h2 a3 h3 a4 h4 a5 h5 hc0 hc1 X W A = (picks (k0_pay2 A X) W).2.1 := by
  unfold out0_C_2
  rw [View.read_writes_eq_canon _ _ _ (cover0_C_2 c i a1 h1 a2 h2 a3 h3 a4 h4 a5 h5 hc0 hc1 X W A)]
  unfold kernelRun0_C
  dsimp only
  sl_unfold_words
  rw [View.canon_unit_zero (S := S4x64) off2]
  rw [View.readCov_unit_zero (S := S4x2048) _ off2]
  simp only [View.readAt_eq_ld, h1.read_unread, h2.read_unread, h5.read_unread, View.ld_unit_zero (S := S4x256x2048) off3,
    View.ld_unit_zero (S := S4x2048) off2, View.ld_unit_zero (S := S2048x2048) off2]
  rfl

/-- The last point's values: the loop's, divided by the greater of their absolute sum and the small constant. -/
theorem values_last (hc0 : ¬cond0_0 i) (hc1 : cond0_1 i) :
    out0_C_3 c i a1 h1 a2 h2 a3 h3 a4 h4 a5 h5 hc0 hc1 X W A = k0_pay12 (picks (k0_pay2 A X) W).2.2 := by
  unfold out0_C_3
  rw [View.read_writes_eq_canon _ _ _ (cover0_C_3 c i a1 h1 a2 h2 a3 h3 a4 h4 a5 h5 hc0 hc1 X W A)]
  unfold kernelRun0_C
  dsimp only
  sl_unfold_words
  rw [View.canon_unit_zero (S := S4x64) off2]
  rw [View.readCov_unit_zero (S := S4x2048) _ off2]
  simp only [View.readAt_eq_ld, h1.read_unread, h2.read_unread, h5.read_unread, View.ld_unit_zero (S := S4x256x2048) off3,
    View.ld_unit_zero (S := S4x2048) off2, View.ld_unit_zero (S := S2048x2048) off2]
  rfl

end Cert.KernelIdeal.Value
-- ==== Proof.Acc.lean ====
/-
  What the grid leaves in the accumulator: point `n` adds the sum of 256 of the 2048 tokens, so after the last point each
  entry is the sum over all of them. The two result arrays are the selection loop over that accumulator.
-/
module

public import proofs.«01_k».proof.Proof.Cases
public import Idealize.ShloMosaic.Lib.Pipeline.ValueKit

@[expose] public section

set_option maxRecDepth 16384

noncomputable section

namespace Cert.KernelIdeal.Value

open Idealize.ShloMosaic Idealize.ShloMosaic.TcCoe Idealize.SL.Sem Cert.KernelIdeal Cert.KernelIdeal.Gen

variable (m : (ℓ : Loc nD τ sig) → Buf (Elt Ideal) ℓ) (c : Dev nD)

/-- The hidden states, as the kernel's launch finds them. -/
abbrev hidden : Vec Ideal S4x2048x2048 .f32 := m ((c : Thread nD τ).loc main_arg0)

/-- The weight, as the kernel's launch finds it. -/
abbrev weight : Vec Ideal S2048x2048 .f32 := m ((c : Thread nD τ).loc main_arg1)

/-- Which block each input window takes at a point: the hidden states' along the tokens, the whole weight. -/
theorem block_index : ∀ t : Fin cfg0.N, win0_0.index t = ![0, t.val, 0] ∧ win0_1.index t = ![0, 0] :=
  (by decide +kernel : ∀ t : Fin grid0.N, _)

/-- Point `t`'s block of the hidden states holds tokens `256 t` to `256 t + 255`. -/
theorem hidden_block (t : Fin cfg0.N) (r : Fin 4) (s : Fin 256) (k : Fin 2048) (p : Fin 2048) (hp : p.val = 256 * t.val + s.val) :
    (iblk m c 0 t : Vec Ideal S4x256x2048 .f32) (ix3 r s k) = hidden m c (ix3 r p k) := by
  blk_ext [iblk, V, block_index t]

/-- Every point's block of the weight is the weight. -/
theorem weight_block (t : Fin cfg0.N) : (iblk m c 1 t : Vec Ideal S2048x2048 .f32) = weight m c := by
  blk_ext! [iblk, V, block_index t]

/-- Token `p` of a row's feature `k`, zero past the last token. -/
def token (r : Fin 4) (k : Fin 2048) (p : ℕ) : EReal := if h : p < 2048 then hidden m c (ix3 r ⟨p, h⟩ k) else 0

/-- Adding a point's block to an accumulator adds the sum of the point's 256 tokens. -/
theorem add_block (t : Fin cfg0.N) (A : Vec Ideal S4x2048 .f32) (r : Fin 4) (k : Fin 2048) :
    k0_pay2 A (iblk m c 0 t) (ix2 r k) = (A (ix2 r k) : EReal) + ∑ s ∈ Finset.range 256, token m c r k (256 * t.val + s) := by
  have ht : t.val < 8 := lt_of_lt_of_eq t.isLt N_0
  rw [Finset.sum_range]
  pointwise [k0_pay2]
  congr 1
  refine Finset.sum_congr rfl fun s _ => ?_
  have hs := s.isLt
  unfold token
  rw [dif_pos (by omega)]
  exact hidden_block m c t r s k ⟨256 * t.val + s.val, by omega⟩ rfl

/-- After point `n`, before the last, the accumulator holds the sum of the first `256 (n + 1)` tokens. -/
theorem acc_sum (r : Fin 4) (k : Fin 2048) : ∀ (n : ℕ) (hn : n < cfg0.N), n < 7 →
    ((outsAt0 m c n hn).2.2 : Vec Ideal S4x2048 .f32) (ix2 r k) = ∑ p ∈ Finset.range (256 * (n + 1)), token m c r k p
  | 0, hn, _ => by
    rw [outsAt0_A m c ⟨0, hn⟩ rfl (by show ¬(0 % 8 = 7); decide)]
    dsimp only
    rw [acc_first, add_block]
    rw [show (k0_pay1 (F := Ideal) (ix2 r k) : EReal) = 0 from by pointwise [k0_pay1], zero_add]
    simp
  | n + 1, hn, h7 => by
    have hN : cfg0.N = 8 := N_0
    have ih := acc_sum r k n (Nat.lt_of_succ_lt hn) (by omega)
    rw [outsAt0_B m c ⟨n + 1, hn⟩ (by dsimp only; omega) (by dsimp only; omega)]
    dsimp only
    rw [acc_middle, add_block]
    simp only [Nat.add_sub_cancel]
    rw [ih, show 256 * (n + 1 + 1) = 256 * (n + 1) + 256 from by ring, Finset.sum_range_add]

/-- The accumulator that the last point's loop reads. -/
def total : Vec Ideal S4x2048 .f32 :=
  k0_pay2 ((outsAt0 m c 6 (lt_of_lt_of_eq (by decide) N_0.symm)).2.2) (iblk m c 0 ⟨7, lt_of_lt_of_eq (by decide) N_0.symm⟩)

/-- It is the sum over the 2048 tokens. -/
theorem total_sum (r : Fin 4) (k : Fin 2048) : total m c (ix2 r k) = ∑ p : Fin 2048, (hidden m c (ix3 r p k) : EReal) := by
  unfold total
  rw [add_block, acc_sum m c r k 6 _ (by decide), ← Finset.sum_range_add (fun p => token m c r k p) (256 * 7) 256]
  rw [Finset.sum_range]
  refine Finset.sum_congr rfl fun p _ => ?_
  unfold token
  rw [dif_pos p.isLt]

/-- The kernel's first result: the positions that the loop picks over the projections of the total. -/
theorem positions_eq : G2 m c = (picks (total m c) (weight m c)).2.1 := by
  rw [G2_last, ← outsAt0_sweep m c 7 (lt_of_lt_of_eq (by decide) N_0.symm), outsAt0_C m c ⟨7, lt_of_lt_of_eq (by decide) N_0.symm⟩ (by decide) rfl]
  dsimp only
  rw [positions_last, weight_block]
  rfl

/-- The kernel's second result: the values that the loop picks, normalised. -/
theorem values_eq : G3 m c = k0_pay12 (picks (total m c) (weight m c)).2.2 := by
  rw [G3_last, ← outsAt0_sweep m c 7 (lt_of_lt_of_eq (by decide) N_0.symm), outsAt0_C m c ⟨7, lt_of_lt_of_eq (by decide) N_0.symm⟩ (by decide) rfl]
  dsimp only
  rw [values_last, weight_block]
  rfl

end Cert.KernelIdeal.Value
-- ==== Proof.Take.lean ====
/-
  The reference's gather along a row: with a batch axis over the rows and one start index per result entry, it reads the
  operand's row at that index.
-/
module

public import proofs.«01_k».proof.Proof.Gen.ReferenceIdeal
public import Idealize.ShloMosaic.Lib.Pointwise

@[expose] public section

set_option maxRecDepth 16384

noncomputable section

namespace Cert.ReferenceIdeal.Value

open Idealize.ShloMosaic Cert.ReferenceIdeal Cert.ReferenceIdeal.Gen

/-- An entry of the gather whose start index is `p`, within the row, is the operand's entry at `p`. -/
theorem gather_row (Q : FVec Ideal S4x2048 .f32) (I : IVec S4x64x1 32) (r : Fin 4) (j : Fin 64) (p : Fin 2048)
    (hI : (I (ix3 r j 0)).toInt = p.val) :
    Host.gather gather_S4x2048_S4x64x1_S4x64_n_1_0_0_1_2_11 Q I (ix2 r j) = Q (ix2 r p) := by
  unfold Host.gather
  congr 1
  funext a
  apply Fin.ext
  have hp := p.isLt
  let d := gather_S4x2048_S4x64x1_S4x64_n_1_0_0_1_2_11
  match a with
  | ⟨0, _⟩ =>
    show d.start (ix2 r j) I 0 + d.batchCoord (ix2 r j) 0 + d.offCoord (ix2 r j) 0 = r.val
    rw [d.start_batching (ix2 r j) I 0 (by decide), d.offCoord_eq_zero (ix2 r j) 0 (by decide), Nat.zero_add, Nat.add_zero]
    rfl
  | ⟨1, _⟩ =>
    show d.start (ix2 r j) I 1 + d.batchCoord (ix2 r j) 1 + d.offCoord (ix2 r j) 1 = p.val
    rw [d.batchCoord_eq_zero (ix2 r j) 1 (by decide), d.offCoord_eq_zero (ix2 r j) 1 (by decide), Nat.add_zero]
    have hs : d.start (ix2 r j) I 1 = min (I (d.siIdx (ix2 r j) ⟨0, by decide⟩)).toInt.toNat (2048 - 1) := rfl
    have hi : d.siIdx (ix2 r j) ⟨0, by decide⟩ = ix3 r j 0 := by
      funext b
      apply Fin.ext
      match b with
      | ⟨0, _⟩ => rfl
      | ⟨1, _⟩ => rfl
      | ⟨2, _⟩ => rfl
    rw [hs, hi, hI]
    simp only [Int.toNat_natCast]
    omega

end Cert.ReferenceIdeal.Value
-- ==== Proof.RefOut.lean ====
/-
  What the reference computes, entry by entry: the positions of a row's greatest projections in absolute value, in
  descending order, and the projections there divided by the greater of their absolute sum and a small constant.
-/
module

public import proofs.«01_k».proof.Proof.Gen.ReferenceIdeal.Run
public import proofs.«01_k».proof.Proof.Take
public import proofs.«01_k».proof.Proof.Rounds
public import proofs.«01_k».proof.Proof.Consts
public import Idealize.ShloMosaic.Lib.Pointwise

@[expose] public section

set_option maxRecDepth 16384

noncomputable section

namespace Cert.ReferenceIdeal.Value

open Idealize.ShloMosaic Idealize.ShloMosaic.TcCoe Cert.ReferenceIdeal Cert.ReferenceIdeal.Gen Cert.Ranks

/-- The projections: the tokens' mean times the weight. -/
def proj (H : FVec Ideal S4x2048x2048 .f32) (W : FVec Ideal S2048x2048 .f32) : FVec Ideal S4x2048 .f32 :=
  Host.dotGeneral dot_S4x2048_S2048x2048_S4x2048_1_0_0_1_n_n none
    (Host.divf (Host.reduceAdd H (constant S_ .f32 0x00000000#32) reducesTo_S4x2048x2048_S4x2048_d1 h_S_)
      (broadcastInDim S4x2048 ![] bcast_S_S4x2048 (constant S_ .f32 0x45000000#32))) W

/-- A projection is the sum over the features of the mean (the tokens' sum times 1/2048) times the weight. -/
theorem proj_apply (H : FVec Ideal S4x2048x2048 .f32) (W : FVec Ideal S2048x2048 .f32) (r : Fin 4) (c : Fin 2048) :
    proj H W (ix2 r c) = ∑ k : Fin 2048, ((∑ p : Fin 2048, (H (ix3 r p k) : EReal)) * Ideal.ofBits .f32 0x3A000000#32)
      * (W (ix2 k c) : EReal) := by
  pointwise [proj]
  refine Finset.sum_congr rfl fun k _ => ?_
  rw [Consts.div_2048]

/-- The absolute values of row `r`. -/
abbrev key (Q : FVec Ideal S4x2048 .f32) (r : Fin 4) (c : Fin 2048) : EReal := max (Q (ix2 r c) : EReal) (-(Q (ix2 r c) : EReal))

/-- The positions of row `r` in descending order of absolute value, of equal ones the lower first. -/
def order (Q : FVec Ideal S4x2048 .f32) (r : Fin 4) : Fin 2048 → Fin 2048 :=
  sortedFrom fun x y => decide (key Q r y < key Q r x)

/-- `order` lists the row's positions in that order. -/
theorem lists_order (Q : FVec Ideal S4x2048 .f32) (r : Fin 4) : Lists (key Q r) (order Q r) :=
  lists_sortedFrom _ _ fun _ _ => decide_eq_true_iff

/-- The positions that the reference returns for projections `Q`. -/
def positions (Q : FVec Ideal S4x2048 .f32) : IVec S4x64 32 :=
  (Host.topK S4x64 1 (FloatOps.cmpfTotal .gt) (Host.absf Q) sliceFits_S4x2048_S4x64).2

/-- A sort of two arrays along the columns permutes row `r` by the stable order of the first array's row. -/
theorem sort2_row {α β : Type} (gt : α → α → BitVec 1) (x : S4x2048.Idx → α) (y : S4x2048.Idx → β) (r : Fin 4) (c : Fin 2048) :
    (Host.sort2 S4x2048 1 (fun a b => gt a.1 b.1) x y).2 (ix2 r c)
      = y (ix2 r (sortedFrom (fun k k' : Fin 2048 => gt (x (ix2 r k)) (x (ix2 r k')) == 1#1) c)) := by
  have hal : ∀ k : Fin 2048, Shape.Idx.along (s := S4x2048) (ix2 r c) (1 : Fin 2) k = ix2 r k := fun k => by
    funext a
    match a with
    | ⟨0, _⟩ => rfl
    | ⟨1, _⟩ => rfl
  unfold Host.sort2
  rw [dif_pos (show 1 < S4x2048.rank by decide)]
  show y (Shape.Idx.along (s := S4x2048) (ix2 r c) (1 : Fin 2) (sortedFrom (fun k k' : Fin 2048 =>
    gt (x (Shape.Idx.along (s := S4x2048) (ix2 r c) (1 : Fin 2) k))
      (x (Shape.Idx.along (s := S4x2048) (ix2 r c) (1 : Fin 2) k')) == 1#1) c)) = _
  simp only [hal]
  exact congrArg y (hal _)

/-- They are the first 64 positions of each row's order. -/
theorem positions_apply (Q : FVec Ideal S4x2048 .f32) (r : Fin 4) (j : Fin 64) (j' : Fin 2048) (hj : j'.val = j.val) :
    positions Q (ix2 r j) = BitVec.ofNat 32 (order Q r j').val := by
  have hB : (fun k k' : Fin 2048 => FloatOps.cmpfTotal (F := Ideal) (φ := .f32) .gt (Host.absf Q (ix2 r k)) (Host.absf Q (ix2 r k')) == 1#1)
      = fun x y => decide (key Q r y < key Q r x) := by
    funext x y
    show (BitVec.ofBool (decide (key Q r y < key Q r x)) == 1#1) = _
    by_cases h : key Q r y < key Q r x <;> simp [h]
  unfold positions Host.topK
  pointwise
  have hi : ∀ q : Fin 2048, q.val = j.val → q = j' := fun q hq => Fin.ext (hq.trans hj.symm)
  refine (sort2_row (FloatOps.cmpfTotal (F := Ideal) (φ := .f32) .gt) (Host.absf Q) _ r _).trans ?_
  rw [hB]
  exact congrArg (fun q : Fin 2048 => BitVec.ofNat 32 (order Q r q).val) (hi _ rfl)

/-- Positions with a negative one counted from the row's end, one start index per entry. -/
def wrapped (I : IVec S4x64 32) : IVec S4x64x1 32 :=
  shapeCast S4x64x1 (select (cmpi .slt I (broadcastInDim S4x64 ![] bcast_S_S4x64 (constantI S_ 32 0#32)))
    (addi I (broadcastInDim S4x64 ![] bcast_S_S4x64 (constantI S_ 32 2048#32))) I) shapeCasts_S4x64_S4x64x1

/-- The projections gathered at the positions, a quiet NaN's reading where a position is outside the row. -/
def taken (Q : FVec Ideal S4x2048 .f32) (I : IVec S4x64 32) : FVec Ideal S4x64 .f32 :=
  select (Host.reduce IntOp.andi
      (andi (cmpi .sge (wrapped I) (broadcastInDim S4x64x1 ![] bcast_S_S4x64x1 (constantI S_ 32 0#32)))
        (cmpi .sle (wrapped I) (broadcastInDim S4x64x1 ![0, 1, 2] bcast_S1x1x1_S4x64x1_0_1_2
          (broadcastInDim S1x1x1 ![2] bcast_S1_S1x1x1_2 (constantI S1 32 2047#32)))))
      (constantI S_ 1 1#1) reducesTo_S4x64x1_S4x64_d2 h_S_)
    (Host.gather gather_S4x2048_S4x64x1_S4x64_n_1_0_0_1_2_11 Q (wrapped I))
    (broadcastInDim S4x64 ![] bcast_S_S4x64 (constant S_ .f32 0x7FC00000#32))

/-- Values divided by the greater of their row's absolute sum and the small constant. -/
def normed (V : FVec Ideal S4x64 .f32) : FVec Ideal S4x64 .f32 :=
  Host.divf V (broadcastInDim S4x64 ![0, 1] bcast_S4x1_S4x64_0_1
    (maximumf (broadcastInDim S4x1 ![0] bcast_S4_S4x1_0
        (Host.reduceAdd (Host.absf V) (constant S_ .f32 0x00000000#32) reducesTo_S4x64_S4_d1 h_S_))
      (broadcastInDim S4x1 ![] bcast_S_S4x1 (constant S_ .f32 0x34000000#32))))

/-- A position within the row is not counted from the end. -/
theorem wrapped_apply (I : IVec S4x64 32) (r : Fin 4) (j : Fin 64) (z : Fin 1) (p : Fin 2048)
    (hI : I (ix2 r j) = BitVec.ofNat 32 p.val) : wrapped I (ix3 r j z) = BitVec.ofNat 32 p.val := by
  have hp := p.isLt
  pointwise [wrapped]
  rw [hI]
  have : IntOp.cmpi .slt (BitVec.ofNat 32 p.val) 0#32 = 0#1 := by
    show BitVec.ofBool ((BitVec.ofNat 32 p.val).slt 0#32) = 0#1
    rw [show (BitVec.ofNat 32 p.val).slt 0#32 = false from by
      rw [Bool.eq_false_iff, ne_eq, BitVec.slt_iff_toInt_lt, toInt_word _ (by omega)]
      simp]
    rfl
  rw [this]
  rfl

/-- At a position within the row the reference takes the projection there. -/
theorem taken_apply (Q : FVec Ideal S4x2048 .f32) (I : IVec S4x64 32) (r : Fin 4) (j : Fin 64) (p : Fin 2048)
    (hI : I (ix2 r j) = BitVec.ofNat 32 p.val) : taken Q I (ix2 r j) = Q (ix2 r p) := by
  have hp := p.isLt
  pointwise [taken]
  have hge : IntOp.cmpi .sge (BitVec.ofNat 32 p.val) 0#32 = 1#1 := by
    show BitVec.ofBool ((0#32).sle (BitVec.ofNat 32 p.val)) = 1#1
    rw [show (0#32).sle (BitVec.ofNat 32 p.val) = true from by
      rw [BitVec.sle_iff_toInt_le, toInt_word p.val (by omega), show (0#32).toInt = 0 from by decide]
      omega]
    rfl
  have hle : IntOp.cmpi .sle (BitVec.ofNat 32 p.val) 2047#32 = 1#1 := by
    show BitVec.ofBool ((BitVec.ofNat 32 p.val).sle 2047#32) = 1#1
    rw [show (BitVec.ofNat 32 p.val).sle 2047#32 = true from by
      rw [BitVec.sle_iff_toInt_le, toInt_word _ (by omega), show (2047#32).toInt = 2047 from by decide]
      omega]
    rfl
  simp only [wrapped_apply I r j _ p hI, hge, hle]
  rw [gather_row Q (wrapped I) r j p (by rw [wrapped_apply I r j 0 p hI, toInt_word _ (by omega)])]
  rfl

/-- The normalised values, entry by entry. -/
theorem normed_apply (V : FVec Ideal S4x64 .f32) (r : Fin 4) (j : Fin 64) :
    normed V (ix2 r j) = Ideal.div (V (ix2 r j)) (max (∑ i : Fin 64, max (V (ix2 r i) : EReal) (-(V (ix2 r i) : EReal)))
      (Ideal.ofBits .f32 0x34000000#32)) := by
  pointwise [normed]
  rfl

variable (m : (ℓ : Loc nD τ sig) → Buf (Elt Ideal) ℓ) (c : Dev nD)

/-- The reference's second result as those steps. -/
theorem result_values : res_main_v12 m c
    = normed (taken (proj (m ((c.tc : Thread nD τ).loc main_arg0)) (m ((c.tc : Thread nD τ).loc main_arg1)))
        (positions (proj (m ((c.tc : Thread nD τ).loc main_arg0)) (m ((c.tc : Thread nD τ).loc main_arg1))))) := by
  unfold res_main_v12
  rfl

end Cert.ReferenceIdeal.Value
-- ==== Proof.Equal.lean ====
/-
  Where the two programs meet: the kernel's projections are the reference's, its selection loop's positions are the
  reference's descending order of absolute values, and its normalised values are the reference's.
-/
module

public import proofs.«01_k».proof.Proof.Acc
public import proofs.«01_k».proof.Proof.RefOut

@[expose] public section

set_option maxRecDepth 16384

noncomputable section

namespace Cert.Equal

open Idealize.ShloMosaic Idealize.ShloMosaic.TcCoe Cert.ReferenceIdeal Cert.Ranks
open Cert.KernelIdeal.Value (picks picks_row wide)
open Cert.KernelIdeal.Gen (k0_pay3 k0_pay12)
open Cert.ReferenceIdeal.Value

variable (A : FVec Ideal S4x2048 .f32) (H : FVec Ideal S4x2048x2048 .f32) (W : FVec Ideal S2048x2048 .f32)
  (hA : ∀ r k, (A (ix2 r k) : EReal) = ∑ p : Fin 2048, (H (ix3 r p k) : EReal))

include hA

/-- From an accumulator that holds the tokens' sums, the kernel computes the reference's projections. -/
theorem projections (r : Fin 4) (c : Fin 2048) : k0_pay3 A W (ix2 r c) = proj H W (ix2 r c) := by
  rw [proj_apply]
  pointwise [k0_pay3]
  refine Finset.sum_congr rfl fun k _ => ?_
  rw [hA]

/-- The loop's columns: the reference's positions, and the projections there. -/
theorem columns (r : Fin 4) (j : Fin 64) :
    (picks A W).2.1 (ix2 r j) = BitVec.ofNat 32 (order (proj H W) r (wide j)).val
      ∧ (picks A W).2.2 (ix2 r j) = proj H W (ix2 r (order (proj H W) r (wide j))) := by
  have h := lists_order (proj H W) r
  have hk : key (proj H W) r
      = fun c : Fin 2048 => max (k0_pay3 (F := Ideal) A W (ix2 r c) : EReal) (-(k0_pay3 (F := Ideal) A W (ix2 r c) : EReal)) := by
    funext c
    rw [projections A H W hA r c]
  rw [hk] at h
  have := picks_row A W r _ h j
  rwa [projections A H W hA] at this

/-- The kernel's positions are the reference's. -/
theorem positions_same : (picks A W).2.1 = positions (proj H W) := by
  funext i
  idx_vars i
  rw [(columns A H W hA i0 i1).1, positions_apply (proj H W) i0 i1 (wide i1) rfl]

/-- The kernel's normalised values are the reference's. -/
theorem values_same : k0_pay12 (picks A W).2.2 = normed (taken (proj H W) (positions (proj H W))) := by
  have ht : (picks A W).2.2 = taken (proj H W) (positions (proj H W)) := by
    funext i
    idx_vars i
    rw [(columns A H W hA i0 i1).2, taken_apply _ _ i0 i1 _ (positions_apply (proj H W) i0 i1 (wide i1) rfl)]
  rw [ht]
  funext i
  idx_vars i
  rw [normed_apply]
  pointwise [k0_pay12]
  rfl

end Cert.Equal
-- ==== Proof.lean ====
/-
  The proof of `Cert.Claim`. The kernel's two programs and the reference run and leave every semaphore counter at zero; the
  ideal kernel and the ideal reference end with equal positions and equal normalised values. What the kernel computes is
  read off in Proof/Trip.lean, Proof/Cases.lean and Proof/Acc.lean, what the reference computes in Proof/RefOut.lean, and
  the two are equated in Proof/Equal.lean.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem

/-- The kernel as printed runs, keeps its arguments and leaves every counter at zero. -/
theorem kernel_runs : Cert.quiescent_Kernel := fun m ρ _ => Cert.Kernel.Gen.frame m ρ

/-- So does its idealization. -/
theorem ideal_runs : Cert.quiescent_KernelIdeal := fun m ρ _ => Cert.KernelIdeal.Gen.frame m ρ

/-- So does the ideal reference, which has no semaphore. -/
theorem reference_runs : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩)
    (Cert.ReferenceIdeal.Value.run m ρ)

/-- From equal arguments the ideal kernel and the ideal reference end with equal positions and equal normalised values. -/
theorem results_agree : Cert.algebraic_KernelIdeal_ReferenceIdeal := by
  intro m ρ m' ρ' _ hargs
  refine ⟨fun c => Cert.KernelIdeal.Value.G2 m c, fun c => Cert.KernelIdeal.Value.G3 m c,
    Cert.KernelIdeal.Value.run m ρ, (θ_run Cert.ReferenceIdeal.defs _ _).mono (fun r h c => ?_)
      (Cert.ReferenceIdeal.Value.run m' ρ')⟩
  obtain ⟨h0, h1, k0, k1⟩ := h c
  obtain ⟨a0, a1⟩ := hargs c
  have hA := Cert.KernelIdeal.Value.total_sum m c
  refine ⟨h0.trans ?_, h1.trans ?_, k0, k1⟩
  · rw [a0, a1]
    exact ((Cert.KernelIdeal.Value.positions_eq m c).trans (Cert.Equal.positions_same (Cert.KernelIdeal.Value.total m c)
      (Cert.KernelIdeal.Value.hidden m c) (Cert.KernelIdeal.Value.weight m c) hA)).symm
  · rw [Cert.ReferenceIdeal.Value.result_values m' c, a0, a1]
    exact ((Cert.KernelIdeal.Value.values_eq m c).trans (Cert.Equal.values_same (Cert.KernelIdeal.Value.total m c)
      (Cert.KernelIdeal.Value.hidden m c) (Cert.KernelIdeal.Value.weight m c) hA)).symm

/-- Every claim of this certificate. -/
theorem claim : Cert.Claim := ⟨Cert.Kernel.Gen.facts, Cert.KernelIdeal.Gen.facts, Cert.ReferenceIdeal.Gen.facts,
  kernel_runs, ideal_runs, reference_runs, trivial, results_agree⟩

end Cert.Proof

end
